-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v4) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_v20) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2048x1x64 : Shape := ⟨3, ![2048, 1, 64]⟩
abbrev S1024x64 : Shape := ⟨2, ![1024, 64]⟩
abbrev S_ : Shape := ⟨0, ![]⟩

class Facts : Prop where
  bcast_S_S2048x1x64 : S_.BroadcastsInDim S2048x1x64 (![] : Fin 0 → Fin S2048x1x64.rank)
  reducesTo_S2048x1x64_S_d0_1_2 : S2048x1x64.ReducesTo [0, 1, 2] S_
  h_S_ : 0 < S_.numel
  bcast_S_S1024x64 : S_.BroadcastsInDim S1024x64 (![] : Fin 0 → Fin S1024x64.rank)
  reducesTo_S1024x64_S_d0_1 : S1024x64.ReducesTo [0, 1] S_

variable [Facts]

def fn {F : FTy → Type} [FloatOps F] (main_arg0 : FVec F S2048x1x64 .f32) (main_arg1 : FVec F S1024x64 .f32) : IVec S_ 1 :=
  let main_v0 : FVec F S2048x1x64 .f32 := Host.absf main_arg0
  let main_cst : FVec F S_ .f32 := constant S_ .f32 0x7F800000#32
  let main_v1 : FVec F S2048x1x64 .f32 := broadcastInDim S2048x1x64 ![] bcast_S_S2048x1x64 main_cst
  let main_v2 : IVec S2048x1x64 1 := cmpf .olt main_v0 main_v1
  let main_c : IVec S_ 1 := constantI S_ 1 1#1
  let main_v3 : IVec S_ 1 := (fun x v => Host.reduce IntOp.andi x v reducesTo_S2048x1x64_S_d0_1_2 h_S_) main_v2 main_c
  let main_v4 : FVec F S1024x64 .f32 := Host.absf main_arg1
  let main_cst_0 : FVec F S_ .f32 := constant S_ .f32 0x7F800000#32
  let main_v5 : FVec F S1024x64 .f32 := broadcastInDim S1024x64 ![] bcast_S_S1024x64 main_cst_0
  let main_v6 : IVec S1024x64 1 := cmpf .olt main_v4 main_v5
  let main_c_1 : IVec S_ 1 := constantI S_ 1 1#1
  let main_v7 : IVec S_ 1 := (fun x v => Host.reduce IntOp.andi x v reducesTo_S1024x64_S_d0_1 h_S_) main_v6 main_c_1
  let main_v8 : IVec S_ 1 := andi main_v3 main_v7
  main_v8
-- ==== Kernel.lean ====
abbrev S2048x1x64 : Shape := ⟨3, ![2048, 1, 64]⟩
abbrev S1024x64 : Shape := ⟨2, ![1024, 64]⟩
abbrev S2048x64 : Shape := ⟨2, ![2048, 64]⟩
abbrev S16x128 : Shape := ⟨2, ![16, 128]⟩
abbrev S1x1 : Shape := ⟨2, ![1, 1]⟩
abbrev S8x128 : Shape := ⟨2, ![8, 128]⟩
abbrev S1024x1024 : Shape := ⟨2, ![1024, 1024]⟩
abbrev S1024 : Shape := ⟨1, ![1024]⟩
abbrev S1024x1 : Shape := ⟨2, ![1024, 1]⟩
abbrev S1x1024 : Shape := ⟨2, ![1, 1024]⟩
abbrev S1 : Shape := ⟨1, ![1]⟩
abbrev S2048 : Shape := ⟨1, ![2048]⟩

abbrev nBuf : Space → Nat
  | .hbm => 9
  | .vmem => 8
  | .smem => 0
  | _ => 0

abbrev bufTy : (tb : Table) → Fin (tcTables nBuf tb) → BufTy
  | .hbm, ⟨0, _⟩ => ⟨S2048x1x64, .f32⟩
  | .hbm, ⟨1, _⟩ => ⟨S1024x64, .f32⟩
  | .hbm, ⟨2, _⟩ => ⟨S2048x64, .f32⟩
  | .hbm, ⟨3, _⟩ => ⟨S16x128, .f32⟩
  | .hbm, ⟨4, _⟩ => ⟨S16x128, .i32⟩
  | .hbm, ⟨5, _⟩ => ⟨S1x1, .f32⟩
  | .hbm, ⟨6, _⟩ => ⟨S2048, .f32⟩
  | .hbm, ⟨7, _⟩ => ⟨S2048, .i32⟩
  | .hbm, ⟨8, _⟩ => ⟨S1, .f32⟩
  | .local _ .vmem, ⟨0, _⟩ => ⟨S1024x64, .f32⟩
  | .local _ .vmem, ⟨1, _⟩ => ⟨S1024x64, .f32⟩
  | .local _ .vmem, ⟨2, _⟩ => ⟨S1024x64, .f32⟩
  | .local _ .vmem, ⟨3, _⟩ => ⟨S8x128, .f32⟩
  | .local _ .vmem, ⟨4, _⟩ => ⟨S8x128, .f32⟩
  | .local _ .vmem, ⟨5, _⟩ => ⟨S8x128, .i32⟩
  | .local _ .vmem, ⟨6, _⟩ => ⟨S8x128, .i32⟩
  | .local _ .vmem, ⟨7, _⟩ => ⟨S1x1, .f32⟩
  | _, _ => ⟨S2048x1x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![2], ![false]⟩

def k0_cond1 (i : grid0.Coords) : BitVec 1 :=
  let arg0 : BitVec 32 := BitVec.ofNat 32 (i 0).val
  let c0_i32 : BitVec 32 := 0#32
  let v36 : BitVec 1 := Scalar.cmpi .eq arg0 c0_i32
  let v37 : BitVec 32 := Scalar.extui v36
  let c0_i32_14 : BitVec 32 := 0#32
  let v38 : BitVec 1 := Scalar.cmpi .ne v37 c0_i32_14
  v38

def k0_cond2 (i : grid0.Coords) : BitVec 1 :=
  let arg0 : BitVec 32 := BitVec.ofNat 32 (i 0).val
  let c0_i32_15 : BitVec 32 := 0#32
  let v39 : BitVec 1 := Scalar.cmpi .sgt arg0 c0_i32_15
  let v40 : BitVec 32 := Scalar.extui v39
  let c0_i32_16 : BitVec 32 := 0#32
  let v41 : BitVec 1 := Scalar.cmpi .ne v40 c0_i32_16
  v41

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S2048x1x64 : Shape := ⟨3, ![2048, 1, 64]⟩
abbrev S1024x64 : Shape := ⟨2, ![1024, 64]⟩
abbrev S2048x64 : Shape := ⟨2, ![2048, 64]⟩
abbrev S_ : Shape := ⟨0, ![]⟩
abbrev S2048 : Shape := ⟨1, ![2048]⟩
abbrev S1024 : Shape := ⟨1, ![1024]⟩
abbrev S2048x1 : Shape := ⟨2, ![2048, 1]⟩
abbrev S1x1024 : Shape := ⟨2, ![1, 1024]⟩
abbrev S2048x1024 : Shape := ⟨2, ![2048, 1024]⟩
abbrev S64x1024 : Shape := ⟨2, ![64, 1024]⟩
abbrev S1 : Shape := ⟨1, ![1]⟩

abbrev nBuf : Space → Nat
  | .hbm => 35
  | .vmem => 0
  | .smem => 0
  | _ => 0

abbrev bufTy : (tb : Table) → Fin (tcTables nBuf tb) → BufTy
  | .hbm, ⟨0, _⟩ => ⟨S2048x1x64, .f32⟩
  | .hbm, ⟨1, _⟩ => ⟨S1024x64, .f32⟩
  | .hbm, ⟨2, _⟩ => ⟨S2048x64, .f32⟩
  | .hbm, ⟨3, _⟩ => ⟨S2048x64, .f32⟩
  | .hbm, ⟨4, _⟩ => ⟨S_, .f32⟩
  | .hbm, ⟨5, _⟩ => ⟨S2048, .f32⟩
  | .hbm, ⟨6, _⟩ => ⟨S1024x64, .f32⟩
  | .hbm, ⟨7, _⟩ => ⟨S_, .f32⟩
  | .hbm, ⟨8, _⟩ => ⟨S1024, .f32⟩
  | .hbm, ⟨9, _⟩ => ⟨S2048x1, .f32⟩
  | .hbm, ⟨10, _⟩ => ⟨S1x1024, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S64x1024, .f32⟩
  | .hbm, ⟨15, _⟩ => ⟨S2048x1024, .f32⟩
  | .hbm, ⟨16, _⟩ => ⟨S_, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S_, .f32⟩
  | .hbm, ⟨21, _⟩ => ⟨S_, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S_, .f32⟩
  | .hbm, ⟨26, _⟩ => ⟨S2048, .f32⟩
  | .hbm, ⟨27, _⟩ => ⟨S2048x1024, .i32⟩
  | .hbm, ⟨28, _⟩ => ⟨S_, .f32⟩
  | .hbm, ⟨29, _⟩ => ⟨S_, .i32⟩
  | .hbm, ⟨30, _⟩ => ⟨S2048, .f32⟩
  | .hbm, ⟨31, _⟩ => ⟨S2048, .i32⟩
  | .hbm, ⟨32, _⟩ => ⟨S_, .f32⟩
  | .hbm, ⟨33, _⟩ => ⟨S_, .f32⟩
  | .hbm, ⟨34, _⟩ => ⟨S1, .f32⟩
  | _, _ => ⟨S2048x1x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_call0_v0 : Ref sig .tc := ⟨.hbm, 21, rfl⟩
abbrev main_call0_v1 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_call1_v0 : Ref sig .tc := ⟨.hbm, 27, rfl⟩
abbrev main_call1_cst : Ref sig .tc := ⟨.hbm, 28, rfl⟩
abbrev main_call1_c : Ref sig .tc := ⟨.hbm, 29, rfl⟩
abbrev main_call1_v1_0 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩

abbrev nD : Nat := 1
abbrev τ : Topo := Topo.v7x

variable {F : FTy → Type} [FloatOps F]
-- ==== Proof.Squares.lean ====
/- The two expansions of a squared distance, over finite numbers, and the distance as a function of it. -/
module

public import Idealize.ShloMosaic.PureOps.Ideal
public import Idealize.ShloMosaic.PureOps.Ideal.Laws
public import Mathlib.Algebra.BigOperators.Ring.Finset
public import Mathlib.Algebra.Order.BigOperators.Group.Finset
public import Mathlib.Tactic.Ring
public import Mathlib.Tactic.NormNum

@[expose] public section

noncomputable section

namespace Cert.Proof

open Idealize.ShloMosaic

variable {n : ℕ}

/-- The squared distance of two points with real coordinates. -/
def sqDist (f m : Fin n → ℝ) : ℝ := ∑ d, (f d - m d) ^ 2

/-- A squared distance is not negative. -/
theorem sqDist_nonneg (f m : Fin n → ℝ) : 0 ≤ sqDist f m := Finset.sum_nonneg fun _ _ => sq_nonneg _

/-- A finite sum of real numbers is the same over the extended reals. -/
theorem coe_sum (f : Fin n → ℝ) : ((∑ d, f d : ℝ) : EReal) = ∑ d, (f d : EReal) := by
  induction n with
  | zero => simp
  | succ n ih => rw [Fin.sum_univ_succ, Fin.sum_univ_succ, EReal.coe_add, ih]

/-- The kernel's expansion: the factor `-2` stands inside the product. -/
theorem kernel_square (f m : Fin n → ℝ) :
    (∑ d, (f d : EReal) * f d) + (∑ d, (m d : EReal) * m d) + ∑ d, ((-2 : ℝ) : EReal) * f d * m d = (sqDist f m : EReal) := by
  simp only [← EReal.coe_mul, ← coe_sum, ← EReal.coe_add, sqDist]
  congr 1
  rw [← Finset.sum_add_distrib, ← Finset.sum_add_distrib]
  exact Finset.sum_congr rfl fun d _ => by ring

/-- The reference's expansion: twice the product is taken away. -/
theorem reference_square (f m : Fin n → ℝ) :
    (∑ d, (f d : EReal) * f d) + (∑ d, (m d : EReal) * m d) - ((2 : ℝ) : EReal) * ∑ d, (f d : EReal) * m d = (sqDist f m : EReal) := by
  simp only [← EReal.coe_mul, ← coe_sum, ← EReal.coe_add, ← EReal.coe_sub, sqDist]
  congr 1
  rw [Finset.mul_sum, ← Finset.sum_add_distrib, ← Finset.sum_sub_distrib]
  exact Finset.sum_congr rfl fun d _ => by ring

/-- The distance of a squared distance: the square root of it clipped at zero. -/
def root (v : EReal) : EReal := Ideal.sqrt (max 0 v)

/-- The root of a real number that is not negative is its real square root. -/
theorem root_coe {r : ℝ} (h : 0 ≤ r) : root (r : EReal) = (Real.sqrt r : EReal) := by
  unfold root
  rw [max_eq_right (by exact_mod_cast h)]
  show (if r < 0 then (⊥ : EReal) else (Real.sqrt r : EReal)) = _
  rw [if_neg (not_lt.2 h)]

/-- The root of plus infinity is plus infinity. -/
theorem root_top : root ⊤ = ⊤ := by
  unfold root
  rw [max_eq_right le_top]
  rfl

/-- The root of a real number in general. -/
theorem root_real (r : ℝ) : root (r : EReal) = (Real.sqrt r : EReal) := by
  rcases le_total 0 r with h | h
  · exact root_coe h
  · have h0 : max (0 : EReal) (r : EReal) = ((0 : ℝ) : EReal) := by
      rw [max_eq_left (by exact_mod_cast h)]; rfl
    unfold root
    rw [h0, Real.sqrt_eq_zero_of_nonpos h]
    show (if (0 : ℝ) < 0 then (⊥ : EReal) else (Real.sqrt 0 : EReal)) = _
    rw [if_neg (lt_irrefl _), Real.sqrt_zero]

/-- The root of minus infinity is zero. -/
theorem root_bot : root ⊥ = 0 := by
  unfold root
  rw [max_eq_left bot_le]
  show (if (0 : ℝ) < 0 then (⊥ : EReal) else (Real.sqrt 0 : EReal)) = 0
  rw [if_neg (lt_irrefl _), Real.sqrt_zero]
  rfl

/-- The root grows with its argument. -/
theorem root_mono : Monotone root := by
  intro a b hab
  induction a using EReal.rec with
  | bot =>
    rw [root_bot]
    induction b using EReal.rec with
    | bot => rw [root_bot]
    | coe b => rw [root_real]; exact_mod_cast Real.sqrt_nonneg b
    | top => rw [root_top]; exact le_top
  | coe a =>
    induction b using EReal.rec with
    | bot => exact absurd hab (not_le.2 (EReal.bot_lt_coe a))
    | coe b => rw [root_real, root_real]; exact_mod_cast Real.sqrt_le_sqrt (by exact_mod_cast hab)
    | top => rw [root_top]; exact le_top
  | top => rw [top_le_iff.1 hab]

/-- The root of the least of several values is the least of their roots. -/
theorem root_fold_min (D : Fin n → EReal) :
    root (Finset.univ.fold min ⊤ D) = Finset.univ.fold min ⊤ fun k => root (D k) := by
  have h := Finset.fold_hom (op := (min : EReal → EReal → EReal)) (op' := min) (m := root) (b := ⊤) (f := D) (s := Finset.univ)
    fun x y => root_mono.map_min
  rw [root_top] at h
  exact h.symm

end Cert.Proof

end
-- ==== Proof.First.lean ====
/- The first index at which finitely many numbers are least, as the kernel and as the reference compute it. -/
module

public import Idealize.ShloMosaic.PureOps.Ideal
public import Idealize.ShloMosaic.PureOps.Ideal.Laws
public import Idealize.ShloMosaic.PureOps.Reduce

@[expose] public section

noncomputable section

namespace Cert.Proof

open Idealize.ShloMosaic

/-- `k₀` is the first index at which `D` is least. -/
def IsFirst {n : ℕ} {α : Type} [LinearOrder α] (D : Fin n → α) (k₀ : Fin n) : Prop :=
  (∀ k, D k₀ ≤ D k) ∧ ∀ k, k < k₀ → D k₀ < D k

/-- Finitely many values, at least one, have a first least one. -/
theorem exists_first {n : ℕ} {α : Type} [LinearOrder α] (hn : 0 < n) (D : Fin n → α) : ∃ k₀, IsFirst D k₀ := by
  classical
  haveI : Nonempty (Fin n) := ⟨⟨0, hn⟩⟩
  obtain ⟨k₁, hk₁⟩ := Finite.exists_min D
  let S : Finset (Fin n) := Finset.univ.filter fun k => D k = D k₁
  have hS : S.Nonempty := ⟨k₁, by simp [S]⟩
  have hmem : D (S.min' hS) = D k₁ := (Finset.mem_filter.1 (S.min'_mem hS)).2
  refine ⟨S.min' hS, fun k => hmem ▸ hk₁ k, fun k hk => ?_⟩
  refine lt_of_le_of_ne (hmem ▸ hk₁ k) fun e => ?_
  exact absurd (S.min'_le k (Finset.mem_filter.2 ⟨Finset.mem_univ _, by rw [← e, hmem]⟩)) (not_le.2 hk)

/-- A map that keeps strict order keeps the first least index. -/
theorem IsFirst.map {n : ℕ} {α β : Type} [LinearOrder α] [LinearOrder β] {D : Fin n → α} {k₀ : Fin n} (h : IsFirst D k₀)
    (g : α → β) (hg : ∀ b, D k₀ < D b → g (D k₀) < g (D b)) : IsFirst (fun k => g (D k)) k₀ := by
  refine ⟨fun k => ?_, fun k hk => hg _ (h.2 k hk)⟩
  rcases (h.1 k).lt_or_eq with hl | he
  · exact (hg _ hl).le
  · exact (congrArg g he).le

/-- The least of several values, from plus infinity, is the value at the first least index. -/
theorem IsFirst.fold_min {n : ℕ} {D : Fin n → EReal} {k₀ : Fin n} (h : IsFirst D k₀) : Finset.univ.fold min ⊤ D = D k₀ :=
  le_antisymm ((Finset.fold_min_le _).2 (.inr ⟨k₀, Finset.mem_univ _, le_rfl⟩))
    ((Finset.le_fold_min _).2 ⟨le_top, fun k _ => h.1 k⟩)

/-- A commutative and associative fold is `q` when `q` is among the values and absorbs each of them and the start. -/
theorem fold_eq_of_absorbs {ι β : Type} [DecidableEq ι] (op : β → β → β) [Std.Commutative op] [Std.Associative op] (b q : β) (f : ι → β)
    (s : Finset ι) (i₀ : ι) (hi : i₀ ∈ s) (hq : f i₀ = q) (hb : op q b = q) (hf : ∀ i ∈ s, op q (f i) = q) : s.fold op b f = q := by
  have key : ∀ u : Finset ι, u ⊆ s → op q (u.fold op b f) = q := by
    intro u
    induction u using Finset.induction_on with
    | empty => intro _; rw [Finset.fold_empty]; exact hb
    | insert a u ha ih =>
      intro hu
      rw [Finset.fold_insert ha, ← Std.Associative.assoc (op := op), hf a (hu (Finset.mem_insert_self _ _))]
      exact ih fun i hi => hu (Finset.mem_insert_of_mem hi)
  rw [← Finset.insert_erase hi, Finset.fold_insert (Finset.notMem_erase _ _), hq]
  exact key _ (Finset.erase_subset _ _)

/-- Small numbers as signed words compare as numbers. -/
theorem slt_ofNat {a b : ℕ} (ha : a < 2 ^ 31) (hb : b < 2 ^ 31) :
    (BitVec.ofNat 32 a).slt (BitVec.ofNat 32 b) = decide (a < b) := by
  rw [BitVec.slt_eq_decide]
  have e : ∀ x : ℕ, x < 2 ^ 31 → (BitVec.ofNat 32 x).toInt = x := by
    intro x hx
    rw [BitVec.toInt_eq_toNat_of_lt (by rw [BitVec.toNat_ofNat]; omega), BitVec.toNat_ofNat]
    omega
  rw [e a ha, e b hb]
  simp

/-- The lesser of two small numbers as signed words. -/
theorem minsi_ofNat {a b : ℕ} (ha : a < 2 ^ 31) (hb : b < 2 ^ 31) (h : a ≤ b) :
    IntOp.minsi (BitVec.ofNat 32 a) (BitVec.ofNat 32 b) = BitVec.ofNat 32 a := by
  unfold IntOp.minsi
  rw [slt_ofNat ha hb]
  rcases h.lt_or_eq with hl | rfl
  · rw [if_pos (by simpa using hl)]
  · simp

/-- The kernel's label: the least of the indices at which the value is the least one, the others counted as `n`. -/
theorem kernel_first {D : Fin 1024 → EReal} {k₀ : Fin 1024} (h : IsFirst D k₀) :
    Finset.univ.fold IntOp.minsi (2147483647#32)
      (fun k : Fin 1024 => if D k = Finset.univ.fold min ⊤ D then BitVec.ofNat 32 k.val else 1024#32) = BitVec.ofNat 32 k₀.val := by
  rw [h.fold_min]
  have hk := k₀.isLt
  refine fold_eq_of_absorbs IntOp.minsi _ _ _ _ k₀ (Finset.mem_univ _) (if_pos rfl) ?_ fun k _ => ?_
  · exact minsi_ofNat (b := 2147483647) (by omega) (by omega) (by omega)
  · have hk' := k.isLt
    split_ifs with e
    · refine minsi_ofNat (by omega) (by omega) ?_
      by_contra hlt
      exact absurd e (h.2 k (by rw [Fin.lt_def]; omega)).ne'
    · exact minsi_ofNat (b := 1024) (by omega) (by omega) (by omega)

/-- The value and index pair `q` stands before `p`: a lesser value, or the same value at a lesser index. -/
def Before (q p : EReal × BitVec 32) : Prop := q.1 < p.1 ∨ (q.1 = p.1 ∧ q.2.slt p.2 = true)

/-- What the reference's step must do for its fold to find the first least value: keep a pair against one it stands
    before, on either side, and give one of its two pairs. -/
structure PicksFirst (R : EReal × BitVec 32 → EReal × BitVec 32 → EReal × BitVec 32) : Prop where
  left : ∀ q p, Before q p → R q p = q
  right : ∀ q p, Before q p → R p q = q
  same : ∀ q, R q q = q
  one_of : ∀ a b, R a b = a ∨ R a b = b

/-- Such a fold keeps the pair that stands before all that follow. -/
theorem foldl_keeps {R : EReal × BitVec 32 → EReal × BitVec 32 → EReal × BitVec 32} (hR : PicksFirst R) (q : EReal × BitVec 32) :
    ∀ L : List (EReal × BitVec 32), (∀ p ∈ L, p = q ∨ Before q p) → L.foldl R q = q
  | [], _ => rfl
  | p :: L, h => by
    rw [List.foldl_cons]
    have e : R q p = q := by
      rcases h p (List.mem_cons_self ..) with rfl | hb
      · exact hR.same _
      · exact hR.left _ _ hb
    rw [e]
    exact foldl_keeps hR q L fun p hp => h p (List.mem_cons_of_mem _ hp)

/-- Such a fold finds the pair that stands before all others, if it is among those folded over. -/
theorem foldl_finds {R : EReal × BitVec 32 → EReal × BitVec 32 → EReal × BitVec 32} (hR : PicksFirst R) (q : EReal × BitVec 32) :
    ∀ (L : List (EReal × BitVec 32)) (a : EReal × BitVec 32), (a = q ∨ Before q a) → (∀ p ∈ L, p = q ∨ Before q p) → q ∈ L →
      L.foldl R a = q
  | [], _, _, _, hq => nomatch hq
  | p :: L, a, ha, h, hq => by
    rw [List.foldl_cons]
    have hp := h p (List.mem_cons_self ..)
    have hL : ∀ p ∈ L, p = q ∨ Before q p := fun p hp => h p (List.mem_cons_of_mem _ hp)
    by_cases e : p = q
    · have : R a p = q := by
        rw [e]
        rcases ha with rfl | hb
        · exact hR.same _
        · exact hR.right _ _ hb
      rw [this]
      exact foldl_keeps hR q L hL
    · refine foldl_finds hR q L _ ?_ hL ((List.mem_cons.1 hq).resolve_left fun e' => e e'.symm)
      rcases hR.one_of a p with e1 | e1 <;> rw [e1]
      · exact ha
      · exact hp

end Cert.Proof

end
-- ==== Proof.Spec.lean ====
/- The three results in plain terms, over points and centres with real coordinates. -/
module

public import proofs.«01_k».proof.Proof.Squares
public import proofs.«01_k».proof.Proof.First

@[expose] public section

noncomputable section

namespace Cert.Proof

open Idealize.ShloMosaic

variable {n : ℕ} (P : Fin n → Fin 64 → ℝ) (C : Fin 1024 → Fin 64 → ℝ)

/-- The squared distances of point `r` to every centre. -/
def squares (r : Fin n) (k : Fin 1024) : EReal := (sqDist (P r) (C k) : EReal)

/-- The distance of point `r` to its nearest centre. -/
def distOf (r : Fin n) : EReal := root (Finset.univ.fold min ⊤ (squares P C r))

/-- The first centre nearest to point `r`. -/
def firstOf (r : Fin n) : Fin 1024 := (exists_first (by decide) (squares P C r)).choose

/-- `firstOf` is the first centre at which the squared distance is least. -/
theorem firstOf_isFirst (r : Fin n) : IsFirst (squares P C r) (firstOf P C r) :=
  (exists_first (by decide) (squares P C r)).choose_spec

/-- The number of the first nearest centre, as a word. -/
def labelOf (r : Fin n) : BitVec 32 := BitVec.ofNat 32 (firstOf P C r).val

/-- The largest of the points' distances. -/
def farthestOf : EReal := Finset.univ.fold max ⊥ (distOf P C)

/-- The largest distance is the larger of the two halves' largest distances. -/
theorem farthestOf_halves (P : Fin 2048 → Fin 64 → ℝ) :
    max (farthestOf (fun r : Fin 1024 => P ⟨r.val, by omega⟩) C) (farthestOf (fun r : Fin 1024 => P ⟨1024 + r.val, by omega⟩) C)
      = farthestOf P C := by
  have lo : ∀ r : Fin 1024, distOf (fun r : Fin 1024 => P ⟨r.val, by omega⟩) C r = distOf P C ⟨r.val, by omega⟩ := fun _ => rfl
  have hi : ∀ r : Fin 1024, distOf (fun r : Fin 1024 => P ⟨1024 + r.val, by omega⟩) C r = distOf P C ⟨1024 + r.val, by omega⟩ := fun _ => rfl
  unfold farthestOf
  refine le_antisymm (max_le ?_ ?_) ?_
  · refine (Finset.fold_max_le _).2 ⟨bot_le, fun r _ => ?_⟩
    exact (Finset.le_fold_max _).2 (.inr ⟨⟨r.val, by omega⟩, Finset.mem_univ _, (lo r).le⟩)
  · refine (Finset.fold_max_le _).2 ⟨bot_le, fun r _ => ?_⟩
    exact (Finset.le_fold_max _).2 (.inr ⟨⟨1024 + r.val, by omega⟩, Finset.mem_univ _, (hi r).le⟩)
  · refine (Finset.fold_max_le _).2 ⟨bot_le, fun r _ => ?_⟩
    by_cases h : r.val < 1024
    · exact le_max_of_le_left ((Finset.le_fold_max _).2 (.inr ⟨⟨r.val, h⟩, Finset.mem_univ _, (lo ⟨r.val, h⟩).ge⟩))
    · have e : r = ⟨1024 + (r.val - 1024), by omega⟩ := Fin.ext (by simp only; omega)
      refine le_max_of_le_right ((Finset.le_fold_max _).2 (.inr ⟨⟨r.val - 1024, by omega⟩, Finset.mem_univ _, ?_⟩))
      rw [hi, ← e]

/-- The initial value of the minima is plus infinity. -/
theorem const_top : Ideal.ofBits .f32 0x7F800000#32 = ⊤ := by simp [Ideal.ofBits, Ideal.ieee]
/-- The initial value of the maxima is minus infinity. -/
theorem const_bot : Ideal.ofBits .f32 0xFF800000#32 = ⊥ := by simp [Ideal.ofBits, Ideal.ieee]
/-- The reference's factor is two. -/
theorem const_two : Ideal.ofBits .f32 0x40000000#32 = ((2 : ℝ) : EReal) := by
  simp [Ideal.ofBits, Ideal.ieee, -EReal.coe_mul]; norm_num
/-- The kernel's factor is minus two. -/
theorem const_neg_two : Ideal.ofBits .f32 0xC0000000#32 = ((-2 : ℝ) : EReal) := by
  simp [Ideal.ofBits, Ideal.ieee, -EReal.coe_mul]; norm_num

end Cert.Proof

end
-- ==== Proof.Finite.lean ====
/- What the precondition gives: every coordinate of the points and of the centres is a real. -/
module

public import proofs.«01_k».proof.Pre_finite
public import proofs.«01_k».proof.Proof.Spec
public import Idealize.ShloMosaic.PureOps.Ideal.Laws
public import Idealize.ShloMosaic.Lib.ReduceAll

@[expose] public section

noncomputable section

namespace Cert.Proof

open Cert.Pre_finite
open Idealize.ShloMosaic

/-- A value whose absolute value is below plus infinity is a real. -/
theorem real_of_abs_lt (v : EReal) (h : Ideal.cmp .olt (max v (-v)) ⊤ = 1#1) : v = (v.toReal : EReal) := by
  have h' : max v (-v) < ⊤ := by
    by_contra hn
    simp [Ideal.cmp, hn] at h
  have h1 : v ≠ ⊤ := fun e => by simp [e] at h'
  have h2 : v ≠ ⊥ := fun e => by simp [e] at h'
  exact (EReal.coe_toReal h1 h2).symm

/-- Under the precondition both arguments hold reals. -/
theorem reals_of_finite [Cert.Pre_finite.Facts] (x : FVec Ideal S2048x1x64 .f32) (y : FVec Ideal S1024x64 .f32)
    (h : Cert.Pre_finite.fn (F := Ideal) x y = fun _ => 1#1) :
    (∀ i, x i = ((x i).toReal : EReal)) ∧ ∀ i, y i = ((y i).toReal : EReal) := by
  haveI : Subsingleton S_.Idx := ⟨fun a b => funext fun i => i.elim0⟩
  have h0 := congrFun h (fun i => i.elim0)
  dsimp only [Cert.Pre_finite.fn] at h0
  obtain ⟨hx, hy⟩ := IntOp.andi_eq_one.1 h0
  refine ⟨fun i => real_of_abs_lt _ ?_, fun i => real_of_abs_lt _ ?_⟩
  · have e := Host.reduce_andi_all _ _ _ _ _ hx i
    rw [← const_top]
    exact e
  · have e := Host.reduce_andi_all _ _ _ _ _ hy i
    rw [← const_top]
    exact e

end Cert.Proof

end
-- ==== Proof.Outs.lean ====
/- What each grid point of the kernel leaves in its output blocks, as payloads over its input blocks. -/
module

public import proofs.«01_k».proof.Proof.Gen.KernelIdeal.Frame
public import Idealize.ShloMosaic.PureOps.Ideal
public import Idealize.ShloMosaic.Lib.Pipeline.ValueKit

@[expose] public section

set_option maxRecDepth 16384

noncomputable section

namespace Cert.Proof

open Cert.KernelIdeal Cert.KernelIdeal.Gen
open Idealize.ShloMosaic Idealize.SL.Sem Idealize.ShloMosaic.TcCoe

variable (m : (ℓ : Loc nD τ sig) → Buf (Elt Ideal) ℓ) (c : Dev nD)

/-- Every point leaves the block's nearest distances in the first output block. -/
theorem out_dist (t : Fin cfg0.N) :
    (outsAt0 (F := Ideal) m c t.val t.isLt).1 = k0_pay5 (iblk m c 0 t) (iblk m c 1 t) := by
  by_cases h : t.val % 2 = 0
  · rw [outsAt0_A m c t h (by omega)]
    frame_out
  · rw [outsAt0_B m c t h (by omega)]
    frame_out

/-- Every point leaves the block's labels in the second output block. -/
theorem out_label (t : Fin cfg0.N) :
    (outsAt0 (F := Ideal) m c t.val t.isLt).2.1 = k0_pay6 (iblk m c 0 t) (iblk m c 1 t) := by
  by_cases h : t.val % 2 = 0
  · rw [outsAt0_A m c t h (by omega)]
    frame_out
  · rw [outsAt0_B m c t h (by omega)]
    frame_out

/-- The first point leaves its block's largest distance in the third output block. -/
theorem out_max_first :
    (outsAt0 (F := Ideal) m c t0_0.val t0_0.isLt).2.2 = k0_pay7 (iblk m c 0 t0_0) (iblk m c 1 t0_0) := by
  rw [outsAt0_A m c t0_0 (by decide) (by decide)]
  frame_out

/-- The second point leaves the larger of what the first left and its own block's largest distance. -/
theorem out_max_second :
    (outsAt0 (F := Ideal) m c t0_1.val t0_1.isLt).2.2
      = k0_pay1 (k0_pay7 (iblk m c 0 t0_1) (iblk m c 1 t0_1)) (k0_pay7 (iblk m c 0 t0_0) (iblk m c 1 t0_0)) := by
  rw [outsAt0_B m c t0_1 (by decide) (by decide), ← out_max_first]
  frame_out
  rfl

end Cert.Proof

end
-- ==== Proof.Arrays.lean ====
/- What the kernel's arrays hold: its input blocks over the arguments, and its three results over the payloads. -/
module

public import proofs.«01_k».proof.Proof.Outs
public import Idealize.ShloMosaic.Lib.Pointwise
public import Idealize.ShloMosaic.Lib.Claim

@[expose] public section

set_option maxRecDepth 16384

noncomputable section

namespace Cert.Proof

open Cert.KernelIdeal Cert.KernelIdeal.Gen
open Idealize.ShloMosaic Idealize.SL.Sem Idealize.ShloMosaic.TcCoe

variable (m : (ℓ : Loc nD τ sig) → Buf (Elt Ideal) ℓ) (c : Dev nD)

/-- The blocks each grid point reads and writes. -/
theorem block_index : ∀ t : Fin cfg0.N, win0_0.index t = ![t.val, 0] ∧ win0_1.index t = ![0, 0] ∧ win0_2.index t = ![t.val, 0]
    ∧ win0_3.index t = ![t.val, 0] := by
  decide +kernel

/-- The first argument as the region finds it: reshaped to a matrix of points. -/
theorem entry_points (r : Fin 2048) (d : Fin 64) :
    (V (F := Ideal) m c main_v0 : Vec Ideal S2048x64 .f32) (ix2 r d)
      = (m ((c.tc : Thread nD τ).loc main_arg0) : Vec Ideal S2048x1x64 .f32) (ix3 r 0 d) := by
  unfold V V0
  simp only [List.flatten_cons, List.flatten_nil, List.append_nil]
  after_results
  pointwise []

/-- Row `r` of the block of points that grid point `t` reads is row `1024 t + r` of the first argument. -/
theorem points_block (t : Fin cfg0.N) (r : Fin 1024) (d : Fin 64) (h : t.val * 1024 + r.val < 2048) :
    (iblk (F := Ideal) m c 0 t : Vec Ideal S1024x64 .f32) (ix2 r d)
      = (m ((c.tc : Thread nD τ).loc main_arg0) : Vec Ideal S2048x1x64 .f32) (ix3 ⟨t.val * 1024 + r.val, h⟩ 0 d) := by
  rw [← entry_points m c]
  have e := (block_index t).1
  blk_ext [iblk, e]

/-- Every grid point reads the whole second argument. -/
theorem centres_block (t : Fin cfg0.N) :
    (iblk (F := Ideal) m c 1 t : Vec Ideal S1024x64 .f32) = m ((c.tc : Thread nD τ).loc main_arg1) := by
  funext y
  have e := (block_index t).2.1
  rw [← V_main_arg1 m c]
  blk_ext [iblk, e]

/-- The two points write different blocks of the first output. -/
theorem dist_disjoint : ∀ t t' : Fin cfg0.N, (cfg0.win 2).flush t = true → (cfg0.win 2).flush t' = true → t ≠ t' →
    Disjoint ((cfg0.win 2).blk t).view.set ((cfg0.win 2).blk t').view.set :=
  Pipeline.Window.hdisj_of_index_inj _ (by decide +kernel)

/-- The two points write different blocks of the second output. -/
theorem label_disjoint : ∀ t t' : Fin cfg0.N, (cfg0.win 3).flush t = true → (cfg0.win 3).flush t' = true → t ≠ t' →
    Disjoint ((cfg0.win 3).blk t).view.set ((cfg0.win 3).blk t').view.set :=
  Pipeline.Window.hdisj_of_index_inj _ (by decide +kernel)

/-- The first output array holds each point's block of nearest distances. -/
theorem arr_dist (t : Fin cfg0.N) (a : Fin 8) (b : Fin 128) (h : t.val * 8 + a.val < 16) :
    ((dats (F := Ideal) m 0 c).arrAt 2 cfg0.N : Vec Ideal S16x128 .f32) (ix2 ⟨t.val * 8 + a.val, h⟩ b)
      = k0_pay5 (iblk m c 0 t) (iblk m c 1 t) (ix2 a b) := by
  have e := (block_index t).2.2.1
  have hf : ∀ t : Fin cfg0.N, (cfg0.win 2).flush t = true := by decide +kernel
  have key := (dats (F := Ideal) m 0 c).arrAt_emb_eq_flushed 2 dist_disjoint t (hf t) (ix2 a b)
  have hidx : ((cfg0.win 2).blk t).view.emb (ix2 a b) = (ix2 ⟨t.val * 8 + a.val, h⟩ b : S16x128.Idx) := by
    blk_ext [e]
  rw [hidx] at key
  refine key.trans ?_
  blk_simp
  rw [after0_2, out_dist]

/-- The second output array holds each point's block of labels. -/
theorem arr_label (t : Fin cfg0.N) (a : Fin 8) (b : Fin 128) (h : t.val * 8 + a.val < 16) :
    ((dats (F := Ideal) m 0 c).arrAt 3 cfg0.N : Vec Ideal S16x128 .i32) (ix2 ⟨t.val * 8 + a.val, h⟩ b)
      = k0_pay6 (iblk m c 0 t) (iblk m c 1 t) (ix2 a b) := by
  have e := (block_index t).2.2.2
  have hf : ∀ t : Fin cfg0.N, (cfg0.win 3).flush t = true := by decide +kernel
  have key := (dats (F := Ideal) m 0 c).arrAt_emb_eq_flushed 3 label_disjoint t (hf t) (ix2 a b)
  have hidx : ((cfg0.win 3).blk t).view.emb (ix2 a b) = (ix2 ⟨t.val * 8 + a.val, h⟩ b : S16x128.Idx) := by
    blk_ext [e]
  rw [hidx] at key
  refine key.trans ?_
  blk_simp
  rw [after0_3, out_label]

/-- The third output array holds what the second point leaves in its block. -/
theorem arr_max :
    ((dats (F := Ideal) m 0 c).arrAt 4 cfg0.N : Vec Ideal S1x1 .f32)
      = k0_pay1 (k0_pay7 (iblk m c 0 t0_1) (iblk m c 1 t0_1)) (k0_pay7 (iblk m c 0 t0_0) (iblk m c 1 t0_0)) := by
  refine (dats m 0 c).arrAt_eq_of_after_last 4 t0_1 (by decide +kernel) _ fun j => ?_
  rw [after0_4, out_max_second]
  rfl

/-- The first result is the first output array, reshaped. -/
theorem tail_dist : Pipeline.afterTail₀ cfgs (dats (F := Ideal) m) 0 (V0 m) [hostOps1] c main_v2
    = shapeCast S2048 ((dats (F := Ideal) m 0 c).arrAt 2 cfg0.N : Vec Ideal S16x128 .f32) shapeCasts_S16x128_S2048 := by
  rw [← Pipeline.withArrays_arr (cfgs 0).spec (by decide) c (V0 m c) (fun w => (dats (F := Ideal) m 0 c).arrAt w (cfgs 0).N) 2]
  unfold Pipeline.afterTail₀
  simp only [List.flatten_cons, List.flatten_nil, List.append_nil]
  after_results
  rfl

/-- The second result is the second output array, reshaped. -/
theorem tail_label : Pipeline.afterTail₀ cfgs (dats (F := Ideal) m) 0 (V0 m) [hostOps1] c main_v3
    = shapeCast S2048 ((dats (F := Ideal) m 0 c).arrAt 3 cfg0.N : Vec Ideal S16x128 .i32) shapeCasts_S16x128_S2048 := by
  rw [← Pipeline.withArrays_arr (cfgs 0).spec (by decide) c (V0 m c) (fun w => (dats (F := Ideal) m 0 c).arrAt w (cfgs 0).N) 3]
  unfold Pipeline.afterTail₀
  simp only [List.flatten_cons, List.flatten_nil, List.append_nil]
  after_results
  rfl

/-- The third result is the third output array, reshaped. -/
theorem tail_max : Pipeline.afterTail₀ cfgs (dats (F := Ideal) m) 0 (V0 m) [hostOps1] c main_v4
    = shapeCast S1 ((dats (F := Ideal) m 0 c).arrAt 4 cfg0.N : Vec Ideal S1x1 .f32) shapeCasts_S1x1_S1 := by
  rw [← Pipeline.withArrays_arr (cfgs 0).spec (by decide) c (V0 m c) (fun w => (dats (F := Ideal) m 0 c).arrAt w (cfgs 0).N) 4]
  unfold Pipeline.afterTail₀
  simp only [List.flatten_cons, List.flatten_nil, List.append_nil]
  after_results
  rfl

end Cert.Proof

end
-- ==== Proof.Block.lean ====
/- What one grid point of the kernel computes, over a block of points and the centres with real coordinates. -/
module

public import proofs.«01_k».proof.Proof.Gen.KernelIdeal.Skeleton
public import proofs.«01_k».proof.Proof.Spec
public import Idealize.ShloMosaic.Lib.Pointwise

@[expose] public section

set_option maxRecDepth 16384

noncomputable section

namespace Cert.Proof

open Cert.KernelIdeal Cert.KernelIdeal.Gen
open Idealize.ShloMosaic

variable {x y : Vec Ideal S1024x64 .f32} {P C : Fin 1024 → Fin 64 → ℝ}

/-- The block's squared distances. -/
theorem squares_block (hx : ∀ r d, x (ix2 r d) = (P r d : EReal)) (hy : ∀ k d, y (ix2 k d) = (C k d : EReal)) (r k : Fin 1024) :
    k0_pay2 (F := Ideal) x y (ix2 r k) = squares P C r k := by
  pointwise [k0_pay2]
  simp only [hx, hy]
  rw [const_neg_two]
  exact kernel_square (P r) (C k)

/-- The least of a row of the block's squared distances. -/
theorem least_block (hx : ∀ r d, x (ix2 r d) = (P r d : EReal)) (hy : ∀ k d, y (ix2 k d) = (C k d : EReal)) (r : Fin 1024) (z : Fin 1) :
    k0_pay3 (F := Ideal) x y (ix2 r z) = Finset.univ.fold min ⊤ (squares P C r) := by
  pointwise [k0_pay3]
  simp only [squares_block hx hy]
  rw [const_top]

/-- The block's nearest distances, as a column. -/
theorem dist_column (hx : ∀ r d, x (ix2 r d) = (P r d : EReal)) (hy : ∀ k d, y (ix2 k d) = (C k d : EReal)) (r : Fin 1024) (z : Fin 1) :
    k0_pay4 (F := Ideal) x y (ix2 r z) = distOf P C r := by
  pointwise [k0_pay4]
  rw [least_block hx hy, max_comm]
  rfl

/-- The block's nearest distances, as the kernel stores them. -/
theorem dist_block (hx : ∀ r d, x (ix2 r d) = (P r d : EReal)) (hy : ∀ k d, y (ix2 k d) = (C k d : EReal)) (a : Fin 8) (b : Fin 128) :
    k0_pay5 (F := Ideal) x y (ix2 a b) = distOf P C ⟨a.val * 128 + b.val, by omega⟩ := by
  pointwise [k0_pay5]
  exact dist_column hx hy _ _

/-- The block's labels, as the kernel stores them. -/
theorem label_block (hx : ∀ r d, x (ix2 r d) = (P r d : EReal)) (hy : ∀ k d, y (ix2 k d) = (C k d : EReal)) (a : Fin 8) (b : Fin 128) :
    k0_pay6 (F := Ideal) x y (ix2 a b) = labelOf P C ⟨a.val * 128 + b.val, by omega⟩ := by
  pointwise [k0_pay6]
  simp only [squares_block hx hy, least_block hx hy]
  exact kernel_first (firstOf_isFirst P C _)

/-- The block's largest distance. -/
theorem farthest_block (hx : ∀ r d, x (ix2 r d) = (P r d : EReal)) (hy : ∀ k d, y (ix2 k d) = (C k d : EReal)) (a b : Fin 1) :
    k0_pay7 (F := Ideal) x y (ix2 a b) = farthestOf P C := by
  pointwise [k0_pay7]
  simp only [dist_column hx hy]
  rw [const_bot]
  rfl

/-- The step of the running maximum. -/
theorem running_max (u v : Vec Ideal S1x1 .f32) (a b : Fin 1) :
    k0_pay1 (F := Ideal) u v (ix2 a b) = max (v (ix2 a b)) (u (ix2 a b)) := by
  pointwise [k0_pay1]

end Cert.Proof

end
-- ==== Proof.KernelValue.lean ====
/- The kernel's three results at an index, over points and centres with real coordinates. -/
module

public import proofs.«01_k».proof.Proof.Arrays
public import proofs.«01_k».proof.Proof.Block

@[expose] public section

set_option maxRecDepth 16384

noncomputable section

namespace Cert.Proof

open Cert.KernelIdeal Cert.KernelIdeal.Gen
open Idealize.ShloMosaic Idealize.SL.Sem Idealize.ShloMosaic.TcCoe

variable (m : (ℓ : Loc nD τ sig) → Buf (Elt Ideal) ℓ) (c : Dev nD)
variable {P : Fin 2048 → Fin 64 → ℝ} {C : Fin 1024 → Fin 64 → ℝ}

/-- The first argument of device `c` holds the points `P`. -/
def HoldsPoints (P : Fin 2048 → Fin 64 → ℝ) : Prop :=
  ∀ r d, (m ((c.tc : Thread nD τ).loc main_arg0) : Vec Ideal S2048x1x64 .f32) (ix3 r 0 d) = (P r d : EReal)

/-- The second argument of device `c` holds the centres `C`. -/
def HoldsCentres (C : Fin 1024 → Fin 64 → ℝ) : Prop :=
  ∀ k d, (m ((c.tc : Thread nD τ).loc main_arg1) : Vec Ideal S1024x64 .f32) (ix2 k d) = (C k d : EReal)

/-- The points of grid point `t`. -/
def half (P : Fin 2048 → Fin 64 → ℝ) (t : Fin cfg0.N) (r : Fin 1024) : Fin 64 → ℝ :=
  P ⟨t.val * 1024 + r.val, by have := t.isLt; have e : cfg0.N = 2 := by decide
                              omega⟩

variable {m c}

/-- The block of points that grid point `t` reads. -/
theorem points_half (hP : HoldsPoints m c P) (t : Fin cfg0.N) (r : Fin 1024) (d : Fin 64) :
    (iblk (F := Ideal) m c 0 t : Vec Ideal S1024x64 .f32) (ix2 r d) = (half P t r d : EReal) :=
  (points_block m c t r d _).trans (hP _ d)

/-- The centres that grid point `t` reads. -/
theorem centres_all (hC : HoldsCentres m c C) (t : Fin cfg0.N) (k : Fin 1024) (d : Fin 64) :
    (iblk (F := Ideal) m c 1 t : Vec Ideal S1024x64 .f32) (ix2 k d) = (C k d : EReal) :=
  (congrFun (centres_block m c t) _).trans (hC k d)

/-- The grid point that works on point `r`. -/
def pointOf (r : Fin 2048) : Fin cfg0.N := ⟨r.val / 1024, by have e : cfg0.N = 2 := by decide
                                                             omega⟩
/-- The row of point `r` in that grid point's output block. -/
def rowOf (r : Fin 2048) : Fin 8 := ⟨r.val / 128 % 8, by omega⟩
/-- The column of point `r` in that grid point's output block. -/
def colOf (r : Fin 2048) : Fin 128 := ⟨r.val % 128, by omega⟩

/-- The points of a grid point, at a row and column of its output block. -/
theorem half_pointOf (r : Fin 2048) :
    half P (pointOf r) ⟨(rowOf r).val * 128 + (colOf r).val, by have := (rowOf r).isLt; have := (colOf r).isLt; omega⟩ = P r := by
  unfold half pointOf rowOf colOf
  congr 1
  apply Fin.ext
  simp only
  omega

/-- Row `r / 128` of an output array is that grid point's row. -/
theorem row_eq (r : Fin 2048) : r.val / 128 = (pointOf r).val * 8 + (rowOf r).val := by
  unfold pointOf rowOf
  simp only
  omega

/-- The kernel's first result: the nearest distances. -/
theorem kernel_dist (hP : HoldsPoints m c P) (hC : HoldsCentres m c C) (r : Fin 2048) :
    (Pipeline.afterTail₀ cfgs (dats (F := Ideal) m) 0 (V0 m) [hostOps1] c main_v2 : Vec Ideal S2048 .f32) (ix1 r) = distOf P C r := by
  rw [tail_dist]
  have h : (pointOf r).val * 8 + (rowOf r).val < 16 := by unfold pointOf rowOf; simp only; omega
  have key := (arr_dist m c (pointOf r) (rowOf r) (colOf r) h).trans (dist_block (points_half hP _) (centres_all hC _) _ _)
  have e : distOf (half P (pointOf r)) C ⟨(rowOf r).val * 128 + (colOf r).val, by have := (rowOf r).isLt; have := (colOf r).isLt; omega⟩ = distOf P C r := by
    unfold distOf squares
    rw [half_pointOf]
  rw [← e, ← key]
  pointwise []
  rw [show (⟨r.val / 128, by omega⟩ : Fin 16) = ⟨(pointOf r).val * 8 + (rowOf r).val, h⟩ from Fin.ext (row_eq r)]
  rfl

/-- The kernel's second result: the labels. -/
theorem kernel_label (hP : HoldsPoints m c P) (hC : HoldsCentres m c C) (r : Fin 2048) :
    (Pipeline.afterTail₀ cfgs (dats (F := Ideal) m) 0 (V0 m) [hostOps1] c main_v3 : Vec Ideal S2048 .i32) (ix1 r) = labelOf P C r := by
  rw [tail_label]
  have h : (pointOf r).val * 8 + (rowOf r).val < 16 := by unfold pointOf rowOf; simp only; omega
  have key := (arr_label m c (pointOf r) (rowOf r) (colOf r) h).trans (label_block (points_half hP _) (centres_all hC _) _ _)
  have e : labelOf (half P (pointOf r)) C ⟨(rowOf r).val * 128 + (colOf r).val, by have := (rowOf r).isLt; have := (colOf r).isLt; omega⟩ = labelOf P C r := by
    have e' : squares (half P (pointOf r)) C ⟨(rowOf r).val * 128 + (colOf r).val, by have := (rowOf r).isLt; have := (colOf r).isLt; omega⟩ = squares P C r := by
      unfold squares
      rw [half_pointOf]
    unfold labelOf firstOf
    simp only [e']
  rw [← e, ← key]
  pointwise []
  rw [show (⟨r.val / 128, by omega⟩ : Fin 16) = ⟨(pointOf r).val * 8 + (rowOf r).val, h⟩ from Fin.ext (row_eq r)]
  rfl

/-- The kernel's third result: the largest of the nearest distances. -/
theorem kernel_farthest (hP : HoldsPoints m c P) (hC : HoldsCentres m c C) (z : Fin 1) :
    (Pipeline.afterTail₀ cfgs (dats (F := Ideal) m) 0 (V0 m) [hostOps1] c main_v4 : Vec Ideal S1 .f32) (ix1 z) = farthestOf P C := by
  rw [tail_max, arr_max]
  pointwise []
  have lo : half P t0_0 = fun r : Fin 1024 => P ⟨r.val, by omega⟩ :=
    funext fun r => congrArg P (Fin.ext (by show 0 * 1024 + r.val = r.val; omega))
  have hi : half P t0_1 = fun r : Fin 1024 => P ⟨1024 + r.val, by omega⟩ :=
    funext fun r => congrArg P (Fin.ext (by show 1 * 1024 + r.val = 1024 + r.val; omega))
  rw [running_max, farthest_block (points_half hP _) (centres_all hC _), farthest_block (points_half hP _) (centres_all hC _),
    lo, hi, farthestOf_halves C P]

end Cert.Proof

end
-- ==== Proof.RefTerm.lean ====
/- The reference's three results as terms over its two arguments, and its run. -/
module

public import proofs.«01_k».proof.ReferenceIdeal
public import proofs.«01_k».proof.Proof.Gen.ReferenceIdeal
public import Idealize.ShloMosaic.PureOps.Ideal
public import Idealize.ShloMosaic.Lib.Claim

@[expose] public section

set_option maxRecDepth 65536

noncomputable section

namespace Cert.Proof.Ref

open Cert.ReferenceIdeal Cert.ReferenceIdeal.Gen
open Idealize.ShloMosaic Idealize.SL.Sem Idealize.ShloMosaic.TcCoe

variable (x : Vec Ideal S2048x1x64 .f32) (y : Vec Ideal S1024x64 .f32)

/-- The squared distances of every point to every centre, expanded as the reference expands them. -/
def d2 : FVec Ideal S2048x1024 .f32 :=
  subf
    (addf
      (broadcastInDim S2048x1024 ![0, 1] bcast_S2048x1_S2048x1024_0_1
        (broadcastInDim S2048x1 ![0] bcast_S2048_S2048x1_0
          (Host.reduceAdd (mulf (shapeCast S2048x64 x shapeCasts_S2048x1x64_S2048x64) (shapeCast S2048x64 x shapeCasts_S2048x1x64_S2048x64))
            (constant S_ .f32 0x00000000#32) reducesTo_S2048x64_S2048_d1 h_S_)))
      (broadcastInDim S2048x1024 ![0, 1] bcast_S1x1024_S2048x1024_0_1
        (broadcastInDim S1x1024 ![1] bcast_S1024_S1x1024_1
          (Host.reduceAdd (mulf y y) (constant S_ .f32 0x00000000#32) reducesTo_S1024x64_S1024_d1 h_S_))))
    (mulf (broadcastInDim S2048x1024 ![] bcast_S_S2048x1024 (constant S_ .f32 0x40000000#32))
      (Host.dotGeneral (φ₁ := .f32) (φ₂ := .f32) dot_S2048x64_S64x1024_S2048x1024_1_0_0_1_n_n none
        (shapeCast S2048x64 x shapeCasts_S2048x1x64_S2048x64)
        (transpose S64x1024 [1, 0] y transposes_S1024x64_S64x1024_1_0)))

/-- The distances: the square roots of the squared distances clipped at zero. -/
def dists : FVec Ideal S2048x1024 .f32 :=
  Host.sqrt (maximumf (broadcastInDim S2048x1024 ![] bcast_S_S2048x1024 (constant S_ .f32 0x00000000#32)) (d2 x y))

/-- The first result: each point's distance to its nearest centre. -/
def nearest : FVec Ideal S2048 .f32 :=
  Host.reduce FloatOps.minimumf (dists x y) (constant S_ .f32 0x7F800000#32) reducesTo_S2048x1024_S2048_d1 h_S_

/-- The second result: the first centre at that distance. -/
def labels : IVec S2048 32 := fun j =>
  (Host.argReduce reducer_argmin_f32_i32 (dists x y) (iotaInDim S2048x1024 32 1)
    (constant S_ .f32 0x7F800000#32) (constantI S_ 32 0#32) reducesTo_S2048x1024_S2048_d1 h_S_ j).2

/-- The third result: the largest of the nearest distances. -/
def farthest : FVec Ideal S1 .f32 :=
  shapeCast S1 (Host.reduce FloatOps.maximumf (nearest x y) (constant S_ .f32 0xFF800000#32) reducesTo_S2048_S_d0 h_S_) shapeCasts_S_S1

/-- The reference's run: it ends with the three terms in its result arrays and its arguments unchanged. -/
theorem run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v17) = nearest (m ((c.tc : Thread nD τ).loc main_arg0)) (m ((c.tc : Thread nD τ).loc main_arg1))
      ∧ r.2.mem ((c.tc : Thread nD τ).loc main_v18) = labels (m ((c.tc : Thread nD τ).loc main_arg0)) (m ((c.tc : Thread nD τ).loc main_arg1))
      ∧ r.2.mem ((c.tc : Thread nD τ).loc main_v20) = farthest (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  hlo_run
  · rfl
  · rfl
  · rfl

end Cert.Proof.Ref

end
-- ==== Proof.RefValue.lean ====
/- The reference's three results at an index, over points and centres with real coordinates. -/
module

public import proofs.«01_k».proof.Proof.RefTerm
public import proofs.«01_k».proof.Proof.Spec
public import Idealize.ShloMosaic.Lib.Pointwise

@[expose] public section

set_option maxRecDepth 16384

noncomputable section

namespace Cert.Proof.Ref

open Cert.ReferenceIdeal Cert.ReferenceIdeal.Gen
open Idealize.ShloMosaic

variable {x : Vec Ideal S2048x1x64 .f32} {y : Vec Ideal S1024x64 .f32} {P : Fin 2048 → Fin 64 → ℝ} {C : Fin 1024 → Fin 64 → ℝ}

/-- The reference's squared distances. -/
theorem d2_at (hx : ∀ r d, x (ix3 r 0 d) = (P r d : EReal)) (hy : ∀ k d, y (ix2 k d) = (C k d : EReal)) (r : Fin 2048) (k : Fin 1024) :
    d2 x y (ix2 r k) = squares P C r k := by
  pointwise [d2]
  simp only [hx, hy]
  rw [const_two]
  exact reference_square (P r) (C k)

/-- The reference's distances. -/
theorem dists_at (hx : ∀ r d, x (ix3 r 0 d) = (P r d : EReal)) (hy : ∀ k d, y (ix2 k d) = (C k d : EReal)) (r : Fin 2048) (k : Fin 1024) :
    dists x y (ix2 r k) = root (squares P C r k) := by
  pointwise [dists]
  rw [d2_at hx hy]
  rfl

/-- The reference's nearest distances. -/
theorem nearest_at (hx : ∀ r d, x (ix3 r 0 d) = (P r d : EReal)) (hy : ∀ k d, y (ix2 k d) = (C k d : EReal)) (r : Fin 2048) :
    nearest x y (ix1 r) = distOf P C r := by
  pointwise [nearest]
  simp only [dists_at hx hy]
  rw [const_top]
  exact (root_fold_min _).symm

/-- The reference's largest distance. -/
theorem farthest_at (hx : ∀ r d, x (ix3 r 0 d) = (P r d : EReal)) (hy : ∀ k d, y (ix2 k d) = (C k d : EReal)) (z : Fin 1) :
    farthest x y (ix1 z) = farthestOf P C := by
  pointwise [farthest]
  simp only [nearest_at hx hy]
  rw [const_bot]
  rfl

end Cert.Proof.Ref

end
-- ==== Proof.RefStep.lean ====
/- The reference's step of its arg-min as a choice between two pairs. -/
module

public import proofs.«01_k».proof.ReferenceIdeal
public import proofs.«01_k».proof.Proof.First
public import Idealize.ShloMosaic.PureOps.Ideal.Laws

@[expose] public section

noncomputable section

namespace Cert.Proof.Ref

open Cert.ReferenceIdeal
open Idealize.ShloMosaic

/-- The reference's step as a choice between its two pairs. -/
theorem step_eq (a b : EReal × BitVec 32) :
    reducer_argmin_f32_i32 (F := Ideal) a b = if a.1 < b.1 ∨ (a.1 = b.1 ∧ a.2.slt b.2 = true) then a else b := by
  obtain ⟨a1, a2⟩ := a
  obtain ⟨b1, b2⟩ := b
  unfold reducer_argmin_f32_i32
  by_cases h1 : a1 < b1
  · simp [Ideal.cmpf_def, Ideal.cmp, Scalar.select, IntOp.ori, IntOp.andi, IntOp.cmpi, h1, h1.ne]
  · by_cases h2 : a1 = b1
    · subst h2
      cases h3 : a2.slt b2 <;> simp [Ideal.cmpf_def, Ideal.cmp, Scalar.select, IntOp.ori, IntOp.andi, IntOp.cmpi, h3]
    · simp [Ideal.cmpf_def, Ideal.cmp, Scalar.select, IntOp.ori, IntOp.andi, IntOp.cmpi, h1, h2]

/-- The reference's step picks the first least pair. -/
theorem step_picksFirst : PicksFirst (reducer_argmin_f32_i32 (F := Ideal)) where
  left q p h := by rw [step_eq]; exact if_pos h
  right q p h := by
    rw [step_eq]
    refine if_neg fun h' => ?_
    rcases h with h | ⟨e, h⟩ <;> rcases h' with h' | ⟨e', h'⟩
    · exact lt_asymm h h'
    · exact h.ne' e'
    · exact h'.ne' e
    · rw [BitVec.slt_eq_decide, decide_eq_true_eq] at h h'
      exact lt_asymm h h'
  same q := by rw [step_eq]; split_ifs <;> rfl
  one_of a b := by rw [step_eq]; split_ifs <;> simp

end Cert.Proof.Ref

end
-- ==== Proof.RefLabels.lean ====
/- The reference's labels at an index, over points and centres with real coordinates. -/
module

public import proofs.«01_k».proof.Proof.RefValue
public import proofs.«01_k».proof.Proof.RefStep

@[expose] public section

set_option maxRecDepth 16384

noncomputable section

namespace Cert.Proof.Ref

open Cert.ReferenceIdeal Cert.ReferenceIdeal.Gen
open Idealize.ShloMosaic

variable {x : Vec Ideal S2048x1x64 .f32} {y : Vec Ideal S1024x64 .f32} {P : Fin 2048 → Fin 64 → ℝ} {C : Fin 1024 → Fin 64 → ℝ}

/-- The pairs that the reference folds over for point `r` are the row's distances with their indices. -/
theorem mem_row (D : FVec Ideal S2048x1024 .f32) (r : Fin 2048) (p : EReal × BitVec 32) :
    p ∈ Host.argReduceFiber D (iotaInDim S2048x1024 32 1) reducesTo_S2048x1024_S2048_d1 (ix1 r)
      ↔ ∃ k : Fin 1024, p = (D (ix2 r k), BitVec.ofNat 32 k.val) := by
  have hdrop : ∀ i : S2048x1024.Idx, reducesTo_S2048x1024_S2048_d1.drop i = ix1 (i 0) := by
    intro i
    funext a
    apply Fin.ext
    fin_cases a
    exact Shape.ReducesTo.drop_apply_val_of_eq reducesTo_S2048x1024_S2048_d1 i 0 0
  unfold Host.argReduceFiber
  simp only [List.mem_map, List.mem_filter, List.mem_finRange, true_and, decide_eq_true_eq]
  constructor
  · rintro ⟨n, hn, rfl⟩
    obtain ⟨i, rfl⟩ := S2048x1024.rowMajor.surjective n
    simp only [Equiv.symm_apply_apply] at hn ⊢
    have e0 : i 0 = r := congrFun ((hdrop i).symm.trans hn) 0
    have e : i = ix2 r (i 1) := by
      funext a
      fin_cases a
      · exact e0
      · rfl
    refine ⟨i 1, Prod.ext (congrArg D e) rfl⟩
  · rintro ⟨k, rfl⟩
    refine ⟨S2048x1024.rowMajor (ix2 r k), ?_, ?_⟩
    · rw [Equiv.symm_apply_apply, hdrop]; rfl
    · rw [Equiv.symm_apply_apply]; rfl

/-- The distances of point `r` have their first least one where its squared distances do. -/
theorem first_dist (r : Fin 2048) : IsFirst (fun k => root (squares P C r k)) (firstOf P C r) := by
  refine (firstOf_isFirst P C r).map root fun b hb => ?_
  have hb' : sqDist (P r) (C (firstOf P C r)) < sqDist (P r) (C b) := by
    unfold squares at hb
    exact_mod_cast hb
  unfold squares
  rw [root_coe (sqDist_nonneg _ _), root_coe (sqDist_nonneg _ _)]
  exact_mod_cast Real.sqrt_lt_sqrt (sqDist_nonneg _ _) hb'

/-- The reference's labels. -/
theorem labels_at (hx : ∀ r d, x (ix3 r 0 d) = (P r d : EReal)) (hy : ∀ k d, y (ix2 k d) = (C k d : EReal)) (r : Fin 2048) :
    labels x y (ix1 r) = labelOf P C r := by
  have h := first_dist (P := P) (C := C) r
  unfold labels
  rw [Ideal.argReduce_eq_reduce2, Host.reduce2_eq_foldl_fiber]
  have before : ∀ k, (root (squares P C r k), BitVec.ofNat 32 k.val)
      = (root (squares P C r (firstOf P C r)), BitVec.ofNat 32 (firstOf P C r).val)
      ∨ Before (root (squares P C r (firstOf P C r)), BitVec.ofNat 32 (firstOf P C r).val) (root (squares P C r k), BitVec.ofNat 32 k.val) := by
    intro k
    rcases (h.1 k).lt_or_eq with hl | he
    · exact .inr (.inl hl)
    · rcases lt_trichotomy k (firstOf P C r) with hk | hk | hk
      · exact absurd he (h.2 k hk).ne
      · exact .inl (by rw [hk])
      · exact .inr (.inr ⟨he, by simp only [slt_ofNat (show (firstOf P C r).val < 2 ^ 31 by omega) (show k.val < 2 ^ 31 by omega)]; simpa using hk⟩)
  have key := foldl_finds step_picksFirst (root (squares P C r (firstOf P C r)), BitVec.ofNat 32 (firstOf P C r).val)
    (Host.argReduceFiber (dists x y) (iotaInDim S2048x1024 32 1) reducesTo_S2048x1024_S2048_d1 (ix1 r)) (⊤, 0#32)
    (.inr (.inl ?_)) ?_ ?_
  · refine (congrArg Prod.snd (Eq.trans ?_ key))
    rw [← const_top]
    rfl
  · unfold squares
    rw [root_coe (sqDist_nonneg _ _)]
    exact EReal.coe_lt_top _
  · intro p hp
    obtain ⟨k, rfl⟩ := (mem_row _ _ _).1 hp
    rw [dists_at hx hy]
    exact before k
  · exact (mem_row _ _ _).2 ⟨firstOf P C r, by rw [dists_at hx hy]⟩

end Cert.Proof.Ref

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.Pre_finite
public import proofs.«01_k».proof.Proof.Finite
public import proofs.«01_k».proof.Proof.KernelValue
public import proofs.«01_k».proof.Proof.RefLabels
public import Idealize.ShloMosaic.Lib.Claim
public import Idealize.ShloMosaic.Adequacy
public import Idealize.ShloMosaic.Init
public import Idealize.ShloMosaic.Lib.Quiescent

@[expose] public section

set_option maxRecDepth 65536

noncomputable section

namespace Cert.Proof

open Idealize.ShloMosaic Idealize.SL.Sem Idealize.ShloMosaic.TcCoe

/-- The reference's frame. -/
theorem reference_frame : Cert.quiescent_ReferenceIdeal := by
  intro m g _
  hlo_run
  · exact fun _ => ⟨trivial, trivial⟩
  · exact sem_eq_zero_of_no_sems (sig := Cert.ReferenceIdeal.sig) (by decide) _

/-- An equation of two vectors is one at each index. -/
theorem vec_ext {n : ℕ} {α : Type} {u v : (⟨1, ![n]⟩ : Shape).Idx → α} (h : ∀ r : Fin n, u (ix1 r) = v (ix1 r)) : u = v := by
  funext i
  have e : i = ix1 (i 0) := by
    funext a
    fin_cases a
    rfl
  rw [e]
  exact h _

/-- The kernel and the reference give the same three results when both arguments hold reals. -/
theorem results_eq (m : (ℓ : Loc KernelIdeal.nD KernelIdeal.τ KernelIdeal.sig) → Buf (Elt Ideal) ℓ) (c : Dev KernelIdeal.nD)
    (h : Cert.Pre_finite.fn (F := Ideal) (m ((c.tc : Thread KernelIdeal.nD KernelIdeal.τ).loc KernelIdeal.main_arg0))
      (m ((c.tc : Thread KernelIdeal.nD KernelIdeal.τ).loc KernelIdeal.main_arg1)) = fun _ => 1#1) :
    Ref.nearest (m ((c.tc : Thread KernelIdeal.nD KernelIdeal.τ).loc KernelIdeal.main_arg0))
        (m ((c.tc : Thread KernelIdeal.nD KernelIdeal.τ).loc KernelIdeal.main_arg1))
      = Pipeline.afterTail₀ KernelIdeal.cfgs (KernelIdeal.Gen.dats m) 0 (KernelIdeal.Gen.V0 m) [KernelIdeal.Gen.hostOps1] c KernelIdeal.main_v2
    ∧ Ref.labels (m ((c.tc : Thread KernelIdeal.nD KernelIdeal.τ).loc KernelIdeal.main_arg0))
        (m ((c.tc : Thread KernelIdeal.nD KernelIdeal.τ).loc KernelIdeal.main_arg1))
      = Pipeline.afterTail₀ KernelIdeal.cfgs (KernelIdeal.Gen.dats m) 0 (KernelIdeal.Gen.V0 m) [KernelIdeal.Gen.hostOps1] c KernelIdeal.main_v3
    ∧ Ref.farthest (m ((c.tc : Thread KernelIdeal.nD KernelIdeal.τ).loc KernelIdeal.main_arg0))
        (m ((c.tc : Thread KernelIdeal.nD KernelIdeal.τ).loc KernelIdeal.main_arg1))
      = Pipeline.afterTail₀ KernelIdeal.cfgs (KernelIdeal.Gen.dats m) 0 (KernelIdeal.Gen.V0 m) [KernelIdeal.Gen.hostOps1] c KernelIdeal.main_v4 := by
  obtain ⟨hx, hy⟩ := reals_of_finite _ _ h
  have hP : HoldsPoints m c _ := fun r d => hx (ix3 r 0 d)
  have hC : HoldsCentres m c _ := fun k d => hy (ix2 k d)
  exact ⟨vec_ext fun r => (Ref.nearest_at hP hC r).trans (kernel_dist hP hC r).symm,
    vec_ext fun r => (Ref.labels_at hP hC r).trans (kernel_label hP hC r).symm,
    vec_ext fun z => (Ref.farthest_at hP hC z).trans (kernel_farthest hP hC z).symm⟩

/-- The run of the kernel and the run of the reference end with the same results. -/
theorem algebraic : Cert.algebraic_KernelIdeal_ReferenceIdeal_pre_finite := by
  intro m g m' g' hpre hagree
  refine ⟨fun c => Pipeline.afterTail₀ KernelIdeal.cfgs (KernelIdeal.Gen.dats m) 0 (KernelIdeal.Gen.V0 m) [KernelIdeal.Gen.hostOps1] c KernelIdeal.main_v2,
    fun c => Pipeline.afterTail₀ KernelIdeal.cfgs (KernelIdeal.Gen.dats m) 0 (KernelIdeal.Gen.V0 m) [KernelIdeal.Gen.hostOps1] c KernelIdeal.main_v3,
    fun c => Pipeline.afterTail₀ KernelIdeal.cfgs (KernelIdeal.Gen.dats m) 0 (KernelIdeal.Gen.V0 m) [KernelIdeal.Gen.hostOps1] c KernelIdeal.main_v4, ?_, ?_⟩
  · refine (θ_run _ _ _).mono (fun r hr c => ?_) (θ_run_and (Cert.KernelIdeal.Gen.unchanged m g) (Cert.KernelIdeal.Gen.run_main m g))
    obtain ⟨hargs, hout⟩ := hr
    exact ⟨(hout c).2 KernelIdeal.main_v2 (by decide +kernel), (hout c).2 KernelIdeal.main_v3 (by decide +kernel),
      (hout c).2 KernelIdeal.main_v4 (by decide +kernel), (hargs c).1, (hargs c).2⟩
  · refine (θ_run _ _ _).mono (fun r hr c => ?_) (Cert.Proof.Ref.run m' g')
    obtain ⟨h1, h2, h3, h4, h5⟩ := hr c
    rw [(hagree c).1, (hagree c).2] at h1 h2 h3
    obtain ⟨e1, e2, e3⟩ := results_eq m c (hpre c)
    exact ⟨h1.trans e1, h2.trans e2, h3.trans e3, h4, h5⟩

/-- The claim. -/
theorem claim : Cert.Claim := ⟨Cert.Kernel.Gen.facts, Cert.KernelIdeal.Gen.facts, Cert.ReferenceIdeal.Gen.facts, inferInstance,
  fun m ρ _ => Cert.Kernel.Gen.frame m ρ,
  fun m ρ _ => Cert.KernelIdeal.Gen.frame m ρ,
  fun m ρ _ => Cert.KernelIdeal.Gen.frame m ρ,
  reference_frame,
  fun m g _ => reference_frame m g trivial,
  trivial, algebraic⟩

end Cert.Proof

end
